-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S256x8192 : Shape := ⟨2, ![256, 8192]⟩
abbrev S256x256 : Shape := ⟨2, ![256, 256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call1_call0_cst : Ref sig .tc := ⟨.hbm, 2, rfl⟩
abbrev main_call1_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Suffix.lean ====
/-
  SUFFIX SUMS OF A ROW. The mathematics both programs compute: the entry of the result in column `c` of a row is the sum
  of that row's entries from column `c` to the end. A row is read as a function of a natural column number, zero past the
  end, so that the chunks of a row and the row itself are summed over intervals of naturals.
-/
module

public import Idealize.ShloMosaic.Lib.ValueIdx
public import Mathlib.Algebra.BigOperators.Intervals

@[expose] public section

noncomputable section

namespace Cert.Proof.Suffix

open Idealize.ShloMosaic Idealize.ShloMosaic.ValueIdx
open scoped BigOperators

/-- Row `r` of a matrix of extended reals, as a function of the column number; zero past the last column. -/
def row {R C : ℕ} (x : (⟨2, ![R, C]⟩ : Shape).Idx → EReal) (r : Fin R) (s : ℕ) : EReal :=
  if h : s < C then x (ix2 r ⟨s, h⟩) else 0

/-- A row at a column of the matrix is the matrix's entry. -/
theorem row_of_lt {R C : ℕ} (x : (⟨2, ![R, C]⟩ : Shape).Idx → EReal) (r : Fin R) {s : ℕ} (h : s < C) :
    row x r s = x (ix2 r ⟨s, h⟩) := dif_pos h

/-- The sum of the first `n` naturals' values from position `c` on: what a reverse cumulative sum of a row of `n`
    entries holds at column `c`. -/
def suffix (n : ℕ) (g : ℕ → EReal) (c : ℕ) : EReal := ∑ s ∈ Finset.Ico c n, g s

/-- A suffix sum of one stretch, followed by the suffix sum from where the stretch ends, is the suffix sum from the
    stretch's start. -/
theorem stretch_add_suffix {n c e : ℕ} (g : ℕ → EReal) (hc : c ≤ e) (he : e ≤ n) :
    (∑ s ∈ Finset.Ico c e, g s) + suffix n g e = suffix n g c :=
  Finset.sum_Ico_consecutive g hc he

/-- Nothing lies past the end of the row. -/
theorem suffix_end (n : ℕ) (g : ℕ → EReal) : suffix n g n = 0 := by
  unfold suffix; rw [Finset.Ico_self, Finset.sum_empty]

/-- A sum over `K` positions in which those before `c` count as zero is the sum over the positions from `c` on, here
    read at an offset `o`. -/
theorem sum_from {K : ℕ} (g : ℕ → EReal) (o c : ℕ) :
    (∑ k : Fin K, if c ≤ k.val then g (o + k.val) else 0) = ∑ s ∈ Finset.Ico (o + c) (o + K), g s := by
  rw [Fin.sum_univ_eq_sum_range (fun k => if c ≤ k then g (o + k) else 0) K, ← Finset.sum_filter,
    Nat.add_comm o c, Nat.add_comm o K, ← Finset.sum_Ico_add g c K o]
  refine Finset.sum_congr (Finset.ext fun k => ?_) fun _ _ => rfl
  rw [Finset.mem_filter, Finset.mem_range, Finset.mem_Ico]
  exact and_comm

end Cert.Proof.Suffix
-- ==== Proof.Triangle.lean ====
/-
  THE PRODUCT WITH THE TRIANGLE OF ONES. The kernel multiplies each chunk of 256 columns by a 256 × 256 matrix that holds
  one on and below the diagonal and zero above it, so that column `c` of the product is the sum of the chunk's columns from
  `c` to the chunk's end.
-/
module

public import proofs.«01_k».proof.Proof.Gen.KernelIdeal.Value
public import proofs.«01_k».proof.Proof.Suffix
public import Idealize.ShloMosaic.Lib.MatmulPlain
public import Idealize.ShloMosaic.Lib.WordCmp

@[expose] public section

noncomputable section

namespace Cert.Proof.Triangle

open Cert.KernelIdeal Cert.KernelIdeal.Gen Idealize.ShloMosaic Idealize.ShloMosaic.ValueIdx
open scoped BigOperators

/-- The matrix the kernel builds from two index vectors holds one where the row is at or below the column, zero elsewhere. -/
theorem tri_apply (s t : Fin 256) : (k0_pay1 (F := Ideal)) (ix2 s t) = if t.val ≤ s.val then (1 : EReal) else 0 := by
  show ((((IntOp.cmpi .sge (iota .tc S256x256 32 [0] iota_S256x256_d0_w32 (ix2 s t)) (iota .tc S256x256 32 [1] iota_S256x256_d1_w32 (ix2 s t))).setWidth 32).toInt : ℝ) : EReal) = _
  rw [iota_single_apply, iota_single_apply]
  show ((((IntOp.cmpi .sge (BitVec.ofNat 32 s.val) (BitVec.ofNat 32 t.val)).setWidth 32).toInt : ℝ) : EReal) = _
  rw [WordCmp.cmpi_sge_ofNat (by have := s.isLt; omega) (by have := t.isLt; omega)]
  by_cases h : t.val ≤ s.val
  · rw [if_pos h, decide_eq_true h]
    show (((1 : ℤ) : ℝ) : EReal) = 1
    rw [Int.cast_one, EReal.coe_one]
  · rw [if_neg h, decide_eq_false h]
    show (((0 : ℤ) : ℝ) : EReal) = 0
    rw [Int.cast_zero, EReal.coe_zero]

variable {F : FTy → Type} [FloatOps F]

/-- The product of a chunk with the triangle of ones. -/
def prod (v : Vec F S256x256 .f32) : FVec F S256x256 .f32 :=
  matmul dot_S256x256_S256x256_S256x256_1_0_0_1_n_n none v (k0_pay1 (F := F)) (constant S256x256 .f32 0x00000000#32)

/-- Column `c` of the product is the sum of the chunk's columns from `c` on. -/
theorem prod_apply (v : Vec Ideal S256x256 .f32) (r c : Fin 256) :
    prod (F := Ideal) v (ix2 r c) = ∑ k : Fin 256, if c.val ≤ k.val then (v (ix2 r k) : EReal) else 0 := by
  have h := Ideal.matmul_plain_apply (φ₁ := .f32) (φ₂ := .f32) none v (k0_pay1 (F := Ideal)) (constant S256x256 .f32 0x00000000#32) r c
  refine (show prod (F := Ideal) v (ix2 r c) = _ from h).trans ?_
  rw [constant_apply, Ideal.ofBits_zero_f32, zero_add]
  refine Finset.sum_congr rfl fun k _ => ?_
  rw [tri_apply]
  split
  · exact mul_one _
  · exact mul_zero _

end Cert.Proof.Triangle
-- ==== Proof.Block.lean ====
/-
  WHAT ONE GRID POINT COMPUTES. The body walks a block of 256 rows by chunks of 256 columns from the right end to the left,
  carrying the sum of the chunks already walked; the block it stores holds, in each row, the row's suffix sums.
-/
module

public import proofs.«01_k».proof.Proof.Triangle

@[expose] public section

noncomputable section

namespace Cert.Proof.Block

open Cert.KernelIdeal Cert.KernelIdeal.Gen Idealize.ShloMosaic Idealize.ShloMosaic.ValueIdx
open Cert.Proof.Suffix Cert.Proof.Triangle
open scoped BigOperators

/-! ## The body's stores as a recursion over the chunks -/

section Stores
variable {F : FTy → Type} [FloatOps F]

/-- Chunk `n` counted from the right end of the block lies inside the block. -/
theorem chunk_inb (n : ℕ) : ∀ a, (![0, 7936 - 256 * n] : Fin 2 → ℕ) a + S256x256.size a ≤ S256x8192.size a
  | ⟨0, _⟩ => by show 0 + 256 ≤ 256; omega
  | ⟨1, _⟩ => by show 7936 - 256 * n + 256 ≤ 8192; omega

/-- Chunk `n` counted from the right end of the block: all 256 rows, 256 columns from column `7936 - 256 n`. -/
def chunk (n : ℕ) : Rect S256x8192 := Rect.unit ![0, 7936 - 256 * n] S256x256.size (chunk_inb n)

/-- The carry column before chunk `n`: zero, then one more chunk's column 0 of the product each time. -/
def carry (x : Vec F S256x8192 .f32) : ℕ → FVec F S256x1 .f32
  | 0 => k0_pay2
  | n + 1 => addf (carry x n) (extractStridedSlice S256x1 ![0, 0] (prod (View.ld x (chunk n))) slices_S256x256_o0_0_S256x1)

/-- What the body stores in chunk `n`. -/
def stored (x : Vec F S256x8192 .f32) (n : ℕ) : FVec F S256x256 .f32 :=
  addf (prod (View.ld x (chunk n))) (broadcastTo S256x256 (carry x n) broadcasts_S256x1_S256x256)

/-- The first `n` stores, the last one first. -/
def stores (x : Vec F S256x8192 .f32) : ℕ → List (View.Piece (Elt F) S256x8192 .f32)
  | 0 => []
  | n + 1 => ⟨chunk n, stored x n⟩ :: stores x n

/-- The body leaves in the result's block the 32 chunks' stores. -/
theorem out_eq (x : Vec F S256x8192 .f32) : out0_1 x = View.canon (stores x 32) := rfl

/-- Every one of the first `n` stores is the store of a chunk `k < n`. -/
theorem mem_stores (x : Vec F S256x8192 .f32) {p : View.Piece (Elt F) S256x8192 .f32} : ∀ {n : ℕ}, p ∈ stores x n →
    ∃ k, k < n ∧ p = ⟨chunk k, stored x k⟩
  | 0, h => absurd h List.not_mem_nil
  | n + 1, h => by
    rcases List.mem_cons.1 h with h | h
    · exact ⟨n, Nat.lt_succ_self n, h⟩
    · obtain ⟨k, hk, e⟩ := mem_stores x h
      exact ⟨k, Nat.lt_succ_of_lt hk, e⟩

/-- The store of a chunk `k < n` is among the first `n` stores. -/
theorem stores_mem (x : Vec F S256x8192 .f32) {k : ℕ} : ∀ {n : ℕ}, k < n →
    (⟨chunk k, stored x k⟩ : View.Piece (Elt F) S256x8192 .f32) ∈ stores x n
  | n + 1, h => by
    rcases Nat.lt_succ_iff_lt_or_eq.1 h with h | rfl
    · exact List.mem_cons_of_mem _ (stores_mem x h)
    · exact List.mem_cons_self

end Stores

/-! ## The stores over the extended reals -/

/-- Row `r`, column `k` of chunk `n` is row `r`, column `7936 - 256 n + k` of the block. -/
theorem chunk_emb (n : ℕ) (r k : Fin 256) (h : 7936 - 256 * n + k.val < 8192) :
    (chunk n).emb (ix2 r k) = ix2 r ⟨7936 - 256 * n + k.val, h⟩ :=
  Shape.idx_ext₂ (by
    show 0 + 1 * r.val = r.val; omega) (by
    show 7936 - 256 * n + 1 * k.val = 7936 - 256 * n + k.val; omega)

variable (x : Vec Ideal S256x8192 .f32)

/-- The product over chunk `n` at row `r`, column `c`: the row's sum from that column of the block to the chunk's end. -/
theorem prod_chunk (n : ℕ) (r c : Fin 256) :
    prod (F := Ideal) (View.ld x (chunk n)) (ix2 r c)
      = ∑ s ∈ Finset.Ico (7936 - 256 * n + c.val) (7936 - 256 * n + 256), row x r s := by
  refine (prod_apply (View.ld x (chunk n)) r c).trans ?_
  rw [← sum_from]
  refine Finset.sum_congr rfl fun k _ => ?_
  have hk : 7936 - 256 * n + k.val < 8192 := by have := k.isLt; omega
  rw [row_of_lt x r hk, ← chunk_emb n r k hk]
  rfl

/-- The carry before chunk `n` is the row's suffix sum from the end of that chunk on. -/
theorem carry_apply (r : Fin 256) : ∀ n : ℕ, n ≤ 32 →
    carry (F := Ideal) x n (ix2 r (0 : Fin 1)) = suffix 8192 (row x r) (8192 - 256 * n)
  | 0, _ => by
    show Ideal.ofBits .f32 0x00000000#32 = _
    rw [Ideal.ofBits_zero_f32]
    exact (suffix_end _ _).symm
  | n + 1, h => by
    have e := extractStridedSlice_apply ![0, 0] (prod (F := Ideal) (View.ld x (chunk n))) slices_S256x256_o0_0_S256x1
      (ix2 r (0 : Fin 1)) (ix2 r (0 : Fin 256)) (fun a => match a with
        | ⟨0, _⟩ => (Nat.zero_add _).symm
        | ⟨1, _⟩ => rfl)
    show carry (F := Ideal) x n (ix2 r (0 : Fin 1)) + extractStridedSlice S256x1 ![0, 0] (prod (F := Ideal) (View.ld x (chunk n))) slices_S256x256_o0_0_S256x1 (ix2 r (0 : Fin 1)) = _
    rw [e, carry_apply r n (by omega), prod_chunk, add_comm,
      ← stretch_add_suffix (row x r) (show 8192 - 256 * (n + 1) ≤ 8192 - 256 * n by omega) (show 8192 - 256 * n ≤ 8192 by omega)]
    rw [show 7936 - 256 * n + (0 : Fin 256).val = 8192 - 256 * (n + 1) by show 7936 - 256 * n + 0 = _; omega,
      show 7936 - 256 * n + 256 = 8192 - 256 * n by omega]

/-- What is stored in chunk `n` at row `r`, column `c`: the row's suffix sum from that column of the block on. -/
theorem stored_apply {n : ℕ} (hn : n < 32) (r c : Fin 256) :
    stored (F := Ideal) x n (ix2 r c) = suffix 8192 (row x r) (7936 - 256 * n + c.val) := by
  have e := broadcastTo_apply (carry (F := Ideal) x n) broadcasts_S256x1_S256x256 (ix2 r c) (ix2 r (0 : Fin 1)) (fun a => match a with
        | ⟨0, _⟩ => rfl
        | ⟨1, _⟩ => rfl)
  show prod (F := Ideal) (View.ld x (chunk n)) (ix2 r c) + broadcastTo S256x256 (carry (F := Ideal) x n) broadcasts_S256x1_S256x256 (ix2 r c) = _
  have hc := c.isLt
  rw [e, carry_apply x r n (by omega), prod_chunk,
    ← stretch_add_suffix (row x r) (show 7936 - 256 * n + c.val ≤ 8192 - 256 * n by omega) (show 8192 - 256 * n ≤ 8192 by omega),
    show 7936 - 256 * n + 256 = 8192 - 256 * n by omega]

/-- THE BLOCK AFTER THE BODY: row `r`, column `c` holds the row's suffix sum from column `c` on. -/
theorem out_apply (r : Fin 256) (c : Fin 8192) : out0_1 (F := Ideal) x (ix2 r c) = suffix 8192 (row x r) c.val := by
  have hc := c.isLt
  rw [out_eq]
  refine View.canon_apply_of_pieces (Val := Elt Ideal) (fun y : S256x8192.Idx => suffix 8192 (row x (y 0)) (y 1).val) (stores x 32) (fun p hp z => ?_) (ix2 r c) ?_
  · obtain ⟨k, hk, rfl⟩ := mem_stores x hp
    obtain ⟨a, b, rfl⟩ : ∃ a b : Fin 256, z = ix2 a b := ⟨z 0, z 1, eq_ix2 z⟩
    refine (stored_apply x hk a b).trans ?_
    show _ = suffix 8192 (row x ((chunk k).emb (ix2 a b) 0)) ((chunk k).emb (ix2 a b) 1).val
    rw [chunk_emb k a b (by have := b.isLt; omega)]
  · refine ⟨⟨chunk (31 - c.val / 256), stored x (31 - c.val / 256)⟩, stores_mem x (by omega), ?_⟩
    have hb : 7936 - 256 * (31 - c.val / 256) + c.val % 256 = c.val := by omega
    have h := (chunk (31 - c.val / 256)).idx_mem (ix2 r ⟨c.val % 256, Nat.mod_lt _ (by omega)⟩)
    have e : (chunk (31 - c.val / 256)).idx (ix2 r ⟨c.val % 256, Nat.mod_lt _ (by omega)⟩) = ix2 r c :=
      (chunk_emb _ r ⟨c.val % 256, Nat.mod_lt _ (by omega)⟩ (by show _ + c.val % 256 < _; omega)).trans
        (congrArg (ix2 r) (Fin.ext hb))
    rwa [e] at h

end Cert.Proof.Block
-- ==== Proof.KernelValue.lean ====
/-
  THE KERNEL'S RESULT ARRAY. Grid point `t` stages rows `256 t … 256 t + 255` of the argument and writes the same rows of the
  result; so the result array, row by row, holds the suffix sums of the argument's rows.
-/
module

public import proofs.«01_k».proof.Proof.Block

@[expose] public section

noncomputable section

namespace Cert.Proof.KernelValue

open Cert.KernelIdeal Cert.KernelIdeal.Gen Idealize.ShloMosaic Idealize.ShloMosaic.TcCoe Idealize.ShloMosaic.ValueIdx
open Cert.Proof.Suffix

variable (m : (ℓ : Loc nD τ sig) → Buf (Elt Ideal) ℓ)

/-- The two windows' index maps: block row `t`, block column 0 (decided over the 16 points). -/
theorem index_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- There are 16 grid points. -/
theorem points : cfg0.N = 16 := (by decide +kernel : grid0.N = 16)

/-- Row `r`, column `c` of the block read at point `t` is row `256 t + r`, column `c` of the array. -/
theorem in_emb (t : Fin cfg0.N) (r : Fin 256) (c : Fin 8192) (h : 256 * t.val + r.val < 4096) :
    ((cfg0.win 0).blk t).view.emb (ix2 r c) = ix2 (⟨256 * t.val + r.val, h⟩ : Fin 4096) c := by
  obtain ⟨e0, e1, _, _⟩ := index_facts t
  refine Shape.idx_ext₂ ?_ ?_
  · show win0_0.index t (0 : Fin 2) * 256 + 1 * r.val = 256 * t.val + r.val; omega
  · show win0_0.index t (1 : Fin 2) * 8192 + 1 * c.val = c.val; omega

/-- The same of the block written at point `t`. -/
theorem out_emb (t : Fin cfg0.N) (r : Fin 256) (c : Fin 8192) (h : 256 * t.val + r.val < 4096) :
    ((cfg0.win 1).blk t).view.emb (ix2 r c) = ix2 (⟨256 * t.val + r.val, h⟩ : Fin 4096) c := by
  obtain ⟨_, _, e0, e1⟩ := index_facts t
  refine Shape.idx_ext₂ ?_ ?_
  · show win0_1.index t (0 : Fin 2) * 256 + 1 * r.val = 256 * t.val + r.val; omega
  · show win0_1.index t (1 : Fin 2) * 8192 + 1 * c.val = c.val; omega

/-- Row `r` of the block staged at point `t` is row `256 t + r` of the argument. -/
theorem row_block (c : Dev nD) (t : Fin cfg0.N) (r : Fin 256) (h : 256 * t.val + r.val < 4096) :
    row (R := 256) (C := 8192) (iblk m c 0 t) r
      = row (R := 4096) (C := 8192) (m ((c : Thread nD τ).loc main_arg0)) ⟨256 * t.val + r.val, h⟩ := by
  funext s
  by_cases hs : s < 8192
  · rw [row_of_lt _ r hs, row_of_lt _ _ hs]
    show V m c main_arg0 (((cfg0.win 0).blk t).view.emb (ix2 r ⟨s, hs⟩)) = _
    rw [in_emb t r ⟨s, hs⟩ h]
  · rw [row, row, dif_neg hs, dif_neg hs]

/-- Any array read through the block written at point `t`: row `r` of the block is row `256 t + r` of the array. -/
theorem read_out (t : Fin cfg0.N) (A : (cfg0.win 1).arr.view.ty.Contents (Elt Ideal)) (r : Fin 256) (c : Fin 8192) (h : 256 * t.val + r.val < 4096) :
    ((cfg0.win 1).blk t).view.read (Elt Ideal) A (ix2 r c) = A (ix2 (⟨256 * t.val + r.val, h⟩ : Fin 4096) c) := by
  show A (((cfg0.win 1).blk t).view.emb (ix2 r c)) = _
  rw [out_emb t r c h]

/-- The block written at point `t` is whole: no part of it is cut off. -/
theorem cut_out (t : Fin cfg0.N) (X : Vec Ideal S256x8192 .f32) (r : Fin 256) (c : Fin 8192) :
    (cfg0.win 1).cut (grid0.coords t) X (ix2 r c) = X (ix2 r c) :=
  congrArg X (Shape.idx_ext₂ rfl rfl)

/-- THE RESULT ARRAY AFTER THE RUN: row `r`, column `j` holds the suffix sum of the argument's row `r` from column `j` on. -/
theorem final_apply (c : Dev nD) (r : Fin 4096) (j : Fin 8192) :
    (dats m 0 c).arrAt 1 cfg0.N (ix2 r j)
      = suffix 8192 (row (R := 4096) (C := 8192) (m ((c : Thread nD τ).loc main_arg0)) r) j.val := by
  have hr := r.isLt
  obtain ⟨t, ht⟩ : ∃ t : Fin cfg0.N, t.val = r.val / 256 := ⟨⟨r.val / 256, by rw [points]; omega⟩, rfl⟩
  obtain ⟨a, ha⟩ : ∃ a : Fin 256, a.val = r.val % 256 := ⟨⟨r.val % 256, Nat.mod_lt _ (by omega)⟩, rfl⟩
  have h : 256 * t.val + a.val < 4096 := by omega
  obtain rfl : r = ⟨256 * t.val + a.val, h⟩ := Fin.ext (by show r.val = 256 * t.val + a.val; omega)
  have b := congrFun (Cert.KernelIdeal.Value.blocks1 m c t (flush0_1 t)) (ix2 a j)
  rw [Cert.KernelIdeal.Value.flushed1] at b
  have b' := ((read_out t _ a j h).symm.trans b).trans (cut_out t _ a j)
  rw [b', ← row_block m c t a h]
  exact Cert.Proof.Block.out_apply (iblk m c 0 t) a j

end Cert.Proof.KernelValue
-- ==== Proof.Window.lean ====
/-
  THE REFERENCE'S WINDOW SUM. The reference reverses the array along its columns, takes the cumulative sum as a window of
  `lo + 1` columns over the row padded with `lo` zeros on the left, and reverses the result. Over the extended reals that
  is the suffix sum of each row. Stated at any number of rows and columns.
-/
module

public import proofs.«01_k».proof.Proof.Suffix
public import Idealize.ShloMosaic.PureOps.Contract
public import Idealize.ShloMosaic.Lib.Pipeline.Value
public import Mathlib.Algebra.BigOperators.Fin

@[expose] public section

noncomputable section

namespace Cert.Proof.Window

open Idealize.ShloMosaic Idealize.ShloMosaic.ValueIdx
open Cert.Proof.Suffix
open scoped BigOperators

/-- Adding up a list's values one after another, from `v` on, is `v` plus their sum. -/
theorem foldl_eq_add_sum {ι : Type} (f : ι → EReal) : ∀ (l : List ι) (v : EReal),
    l.foldl (fun a n => a + f n) v = v + (l.map f).sum
  | [], v => (add_zero v).symm
  | n :: l, v => by rw [List.foldl_cons, foldl_eq_add_sum f l, List.map_cons, List.sum_cons, add_assoc]

/-- A window of one row and `N` columns has `N` positions. -/
theorem window_numel (N : ℕ) : (⟨2, ![1, N]⟩ : Shape).numel = N :=
  (Fin.prod_univ_two (![1, N] : Fin 2 → ℕ)).trans (Nat.one_mul N)

/-- The window position numbered `n`, one number per column. -/
def position {N : ℕ} (n : Fin N) : (⟨2, ![1, N]⟩ : Shape).Idx :=
  (⟨2, ![1, N]⟩ : Shape).rowMajor.symm ((finCongr (window_numel N)).symm n)

/-- Position `n` of such a window is its column `n`. -/
theorem position_eq {N : ℕ} (n : Fin N) : position n = ix2 (0 : Fin 1) n := by
  unfold position
  rw [Equiv.symm_apply_eq]
  refine Fin.ext ?_
  rw [Shape.rowMajor_val_two]
  show n.val = 0 * N + n.val
  omega

/-- The window sum at row `r`, column `j`: of the `lo + 1` window positions those before `lo - j` meet padding and count
    zero, and position `n` of the rest meets column `j + n - lo`. -/
theorem reduceWindow_apply {R lo : ℕ} (x : (⟨2, ![R, lo + 1]⟩ : Shape).Idx → EReal) (init : (⟨0, ![]⟩ : Shape).Idx → EReal)
    (h : (⟨2, ![R, lo + 1]⟩ : Shape).ReduceWindows (![1, lo + 1] : Fin 2 → ℕ) ![1, 1] ![0, lo] ![0, 0] ⟨2, ![R, lo + 1]⟩)
    (hu : 0 < (⟨0, ![]⟩ : Shape).numel) (h0 : ∀ i, init i = 0) (r : Fin R) (j : Fin (lo + 1)) :
    Host.reduceWindow (· + ·) ![1, lo + 1] ![1, 1] ![0, lo] ![0, 0] x init h hu (ix2 r j)
      = ∑ n : Fin (lo + 1), if lo ≤ j.val + n.val then row x r (j.val + n.val - lo) else 0 := by
  unfold Host.reduceWindow
  refine (foldl_eq_add_sum _ _ _).trans ?_
  rw [h0, zero_add, ← Fin.sum_univ_def, ← Equiv.sum_comp (finCongr (window_numel (lo + 1))).symm]
  refine Finset.sum_congr rfl fun n _ => ?_
  have hn := n.isLt
  have hj := j.isLt
  have hr := r.isLt
  have q0 : (position n 0).val = 0 := by rw [position_eq]; rfl
  have q1 : (position n 1).val = n.val := by rw [position_eq]; rfl
  by_cases hl : lo ≤ j.val + n.val
  · rw [if_pos hl, row_of_lt x r (show j.val + n.val - lo < lo + 1 by omega)]
    refine (dif_pos fun a => ?_).trans (congrArg x (Shape.idx_ext₂ ?_ ?_))
    · match a with
      | ⟨0, _⟩ => show 0 ≤ r.val * 1 + (position n 0).val ∧ r.val * 1 + (position n 0).val - 0 < R; omega
      | ⟨1, _⟩ => show lo ≤ j.val * 1 + (position n 1).val ∧ j.val * 1 + (position n 1).val - lo < lo + 1; omega
    · show r.val * 1 + (position n 0).val - 0 = r.val; omega
    · show j.val * 1 + (position n 1).val - lo = j.val + n.val - lo; omega
  · rw [if_neg hl]
    refine dif_neg fun hin => hl ?_
    have h1 : lo ≤ j.val * 1 + (position n 1).val := (hin (1 : Fin 2)).1
    omega

/-- A row of the array reversed along its columns is the row read from its end. -/
theorem row_reverse {R lo : ℕ} (x : (⟨2, ![R, lo + 1]⟩ : Shape).Idx → EReal) (r : Fin R) {s : ℕ} (hs : s ≤ lo) :
    row (Host.reverse (s := ⟨2, ![R, lo + 1]⟩) [1] x) r s = row x r (lo - s) := by
  rw [row_of_lt _ r (show s < lo + 1 by omega), row_of_lt _ r (show lo - s < lo + 1 by omega)]
  refine congrArg x (Shape.idx_ext₂ rfl ?_)
  show lo + 1 - (s + 1) = lo - s
  omega

/-- REVERSE, CUMULATIVE SUM, REVERSE: at row `r`, column `c` it is the row's suffix sum from column `c` on. -/
theorem reverse_cumsum_apply {R lo : ℕ} (x : (⟨2, ![R, lo + 1]⟩ : Shape).Idx → EReal) (init : (⟨0, ![]⟩ : Shape).Idx → EReal)
    (h : (⟨2, ![R, lo + 1]⟩ : Shape).ReduceWindows (![1, lo + 1] : Fin 2 → ℕ) ![1, 1] ![0, lo] ![0, 0] ⟨2, ![R, lo + 1]⟩)
    (hu : 0 < (⟨0, ![]⟩ : Shape).numel) (h0 : ∀ i, init i = 0) (r : Fin R) (c : Fin (lo + 1)) :
    Host.reverse (s := ⟨2, ![R, lo + 1]⟩) [1]
        (Host.reduceWindow (· + ·) ![1, lo + 1] ![1, 1] ![0, lo] ![0, 0] (Host.reverse (s := ⟨2, ![R, lo + 1]⟩) [1] x) init h hu) (ix2 r c)
      = suffix (lo + 1) (row x r) c.val := by
  have hc := c.isLt
  have e : (fun a : Fin 2 => if a ∈ ([1] : List (Fin 2)) then (ix2 r c a).rev else ix2 r c a) = ix2 r c.rev :=
    Shape.idx_ext₂ (n := ![R, lo + 1]) rfl rfl
  show Host.reduceWindow (· + ·) ![1, lo + 1] ![1, 1] ![0, lo] ![0, 0] (Host.reverse (s := ⟨2, ![R, lo + 1]⟩) [1] x) init h hu
    (fun a : Fin 2 => if a ∈ ([1] : List (Fin 2)) then (ix2 r c a).rev else ix2 r c a) = _
  rw [e, reduceWindow_apply _ init h hu h0]
  have hv : c.rev.val = lo - c.val := by rw [Fin.val_rev]; omega
  have hs : ∀ n : Fin (lo + 1), (if lo ≤ c.rev.val + n.val then row (Host.reverse (s := ⟨2, ![R, lo + 1]⟩) [1] x) r (c.rev.val + n.val - lo) else 0)
      = if c.val ≤ n.val then (fun k => row x r (lo + c.val - k)) (0 + n.val) else 0 := fun n => by
    have hn := n.isLt
    by_cases hl : c.val ≤ n.val
    · rw [if_pos hl, if_pos (by omega), row_reverse x r (by omega)]
      exact congrArg (row x r) (by omega)
    · rw [if_neg hl, if_neg (by omega)]
  rw [Finset.sum_congr rfl fun n _ => hs n, sum_from (fun k => row x r (lo + c.val - k)) 0 c.val, Nat.zero_add, Nat.zero_add,
    Finset.sum_Ico_reflect (row x r) c.val (show lo + 1 ≤ lo + c.val + 1 by omega),
    show lo + c.val + 1 - (lo + 1) = c.val by omega, show lo + c.val + 1 - c.val = lo + 1 by omega]
  rfl

/-- The same for the host's float window sum over the extended reals, the number of columns `N` being `lo + 1`. -/
theorem reverse_cumsum_ideal {R lo N : ℕ} (hN : lo + 1 = N) (x : FVec Ideal ⟨2, ![R, N]⟩ .f32) (init : FVec Ideal ⟨0, ![]⟩ .f32)
    (h : (⟨2, ![R, N]⟩ : Shape).ReduceWindows (![1, N] : Fin 2 → ℕ) ![1, 1] ![0, lo] ![0, 0] ⟨2, ![R, N]⟩)
    (hu : 0 < (⟨0, ![]⟩ : Shape).numel) (h0 : ∀ i, init i = (0 : EReal)) (r : Fin R) (c : Fin N) :
    Host.reverse (s := ⟨2, ![R, N]⟩) [1]
        (Host.reduceWindowAdd ![1, N] ![1, 1] ![0, lo] ![0, 0] (Host.reverse (s := ⟨2, ![R, N]⟩) [1] x) init h hu) (ix2 r c)
      = suffix N (row x r) c.val := by
  subst hN
  exact reverse_cumsum_apply x (fun _ => init (Shape.Idx.first hu)) h (by decide) (fun _ => h0 _) r c

end Cert.Proof.Window
-- ==== Proof.ReferenceValue.lean ====
/-
  THE REFERENCE'S RESULT ARRAY: reverse, cumulative sum, reverse, at the reference's own shapes.
-/
module

public import proofs.«01_k».proof.Proof.Gen.ReferenceIdeal.Run
public import proofs.«01_k».proof.Proof.Window
public import Idealize.ShloMosaic.PureOps.Ideal.Laws

@[expose] public section

noncomputable section

namespace Cert.Proof.ReferenceValue

open Cert.ReferenceIdeal Cert.ReferenceIdeal.Gen Idealize.ShloMosaic Idealize.ShloMosaic.ValueIdx
open Cert.Proof.Suffix

/-- What the reference computes from its argument `x`. -/
def result (x : FVec Ideal S4096x8192 .f32) : FVec Ideal S4096x8192 .f32 :=
  Host.reverse [1] (Host.reduceWindowAdd ![1, 8192] ![1, 1] ![0, 8191] ![0, 0] (Host.reverse [1] x)
    (broadcastInDim S_ ![] bcast_S_S_ (constant S_ .f32 0x00000000#32)) reduceWindows_S4096x8192_S4096x8192_w1s1p0_0_w8192s1p8191_0 h_S_)

/-- Row `r`, column `j` of the reference's result is the suffix sum of the argument's row `r` from column `j` on. -/
theorem result_apply (x : FVec Ideal S4096x8192 .f32) (r : Fin 4096) (j : Fin 8192) :
    result x (ix2 r j) = suffix 8192 (row (R := 4096) (C := 8192) x r) j.val :=
  Window.reverse_cumsum_ideal (by omega) x (broadcastInDim S_ ![] bcast_S_S_ (constant S_ .f32 0x00000000#32))
    reduceWindows_S4096x8192_S4096x8192_w1s1p0_0_w8192s1p8191_0 h_S_ (fun _ => Ideal.ofBits_zero_f32) r j

end Cert.Proof.ReferenceValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.ShloMosaic.ValueIdx Idealize.SL.Sem

/-- The reference runs and leaves its argument as it was; it declares no semaphore, so every counter ends at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- THE EQUATION. From equal arguments the kernel's result array and the reference's are equal, element by element: each
    holds the suffix sums of the argument's rows. -/
theorem results_eq (m : (ℓ : Loc Cert.KernelIdeal.nD Cert.KernelIdeal.τ Cert.KernelIdeal.sig) → Buf (Elt Ideal) ℓ) (c : Dev Cert.KernelIdeal.nD) :
    ReferenceValue.result (m ((c.tc : Thread Cert.KernelIdeal.nD Cert.KernelIdeal.τ).loc Cert.KernelIdeal.main_arg0))
      = (Cert.KernelIdeal.Gen.dats (F := Ideal) m 0 c).arrAt 1 Cert.KernelIdeal.cfg0.N := by
  funext i
  obtain ⟨r, j, rfl⟩ : ∃ (r : Fin 4096) (j : Fin 8192), i = ix2 r j := ⟨i 0, i 1, eq_ix2 i⟩
  exact (ReferenceValue.result_apply _ r j).trans (KernelValue.final_apply m c r j).symm

/-- The kernel and the reference end with equal results and unchanged arguments. -/
theorem values_agree : Cert.algebraic_KernelIdeal_ReferenceIdeal := by
  intro m g m' g' _ hagree
  refine ⟨fun c => (Cert.KernelIdeal.Gen.dats (F := Ideal) m 0 c).arrAt 1 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  rw [hagree c]
  exact results_eq m c

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, values_agree⟩

end Cert.Proof

end
